-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tilt_types_name_experts [hPre_tilt_types_name_experts : Cert.Pre_tilt_types_name_experts.Facts] (m : (ℓ : Loc Cert.KernelIdeal.nD Cert.KernelIdeal.τ Cert.KernelIdeal.sig) → Buf (Elt Ideal) ℓ) : Prop :=
  ∀ c : Dev Cert.KernelIdeal.nD,
    (Cert.Pre_tilt_types_name_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tilt_types_name_experts [hPre_tilt_types_name_experts : Cert.Pre_tilt_types_name_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tilt_types_name_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tilt_types_name_experts [hKernelIdeal : Cert.KernelIdeal.Facts] [hPre_tilt_types_name_experts : Cert.Pre_tilt_types_name_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tilt_types_name_experts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tilt_types_name_experts [hReferenceIdeal : Cert.ReferenceIdeal.Facts] [hPre_tilt_types_name_experts : Cert.Pre_tilt_types_name_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tilt_types_name_experts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_tilt_types_name_experts [hKernelIdeal : Cert.KernelIdeal.Facts] [hReferenceIdeal : Cert.ReferenceIdeal.Facts] [hPre_tilt_types_name_experts : Cert.Pre_tilt_types_name_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tilt_types_name_experts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tilt_types_name_experts : Cert.Pre_tilt_types_name_experts.Facts),
    quiescent_Kernel (hKernel := hKernel)
    ∧ quiescent_KernelIdeal (hKernelIdeal := hKernelIdeal)
    ∧ quiescent_KernelIdeal_pre_tilt_types_name_experts (hKernelIdeal := hKernelIdeal) (hPre_tilt_types_name_experts := hPre_tilt_types_name_experts)
    ∧ quiescent_ReferenceIdeal (hReferenceIdeal := hReferenceIdeal)
    ∧ quiescent_ReferenceIdeal_pre_tilt_types_name_experts (hReferenceIdeal := hReferenceIdeal) (hPre_tilt_types_name_experts := hPre_tilt_types_name_experts)
    ∧ preserves_Kernel_KernelIdeal
    ∧ algebraic_KernelIdeal_ReferenceIdeal_pre_tilt_types_name_experts (hKernelIdeal := hKernelIdeal) (hReferenceIdeal := hReferenceIdeal) (hPre_tilt_types_name_experts := hPre_tilt_types_name_experts)
-- ==== Pre_tilt_types_name_experts.lean ====
abbrev S4096 : Shape := ⟨1, ![4096]⟩
abbrev S4096x1024 : Shape := ⟨2, ![4096, 1024]⟩
abbrev S16x1 : Shape := ⟨2, ![16, 1]⟩
abbrev S16 : Shape := ⟨1, ![16]⟩
abbrev S16x16 : Shape := ⟨2, ![16, 16]⟩
abbrev S1x16 : Shape := ⟨2, ![1, 16]⟩
abbrev S1 : Shape := ⟨1, ![1]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : IVec S4096 32) (main_arg1 : FVec F S4096x1024 .f32) (main_arg2 : FVec F S16x1 .f32) (main_arg3 : FVec F S16 .f32) (main_arg4 : FVec F S16x16 .f32) (main_arg5 : FVec F S16 .f32) (main_arg6 : FVec F S1x16 .f32) (main_arg7 : FVec F S1 .f32) : IVec S4096 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 8#32
  let main_v2 : IVec S4096 32 := broadcastInDim S4096 ![] bcast_S_S4096 main_c_0
  let main_v3 : IVec S4096 1 := cmpi .slt main_arg0 main_v2
  let main_v4 : IVec S4096 1 := andi main_v1 main_v3
  main_v4
-- ==== Kernel.lean ====
abbrev S4096 : Shape := ⟨1, ![4096]⟩
abbrev S4096x1024 : Shape := ⟨2, ![4096, 1024]⟩
abbrev S16x1 : Shape := ⟨2, ![16, 1]⟩
abbrev S16 : Shape := ⟨1, ![16]⟩
abbrev S16x16 : Shape := ⟨2, ![16, 16]⟩
abbrev S1x16 : Shape := ⟨2, ![1, 16]⟩
abbrev S1 : Shape := ⟨1, ![1]⟩
abbrev S256x1024 : Shape := ⟨2, ![256, 1024]⟩
abbrev S1x1 : Shape := ⟨2, ![1, 1]⟩

abbrev nBuf : Space → Nat
  | .hbm => 11
  | .vmem => 4
  | .smem => 6
  | _ => 0

abbrev bufTy : (tb : Table) → Fin (tcTables nBuf tb) → BufTy
  | .hbm, ⟨0, _⟩ => ⟨S4096, .i32⟩
  | .hbm, ⟨1, _⟩ => ⟨S4096x1024, .f32⟩
  | .hbm, ⟨2, _⟩ => ⟨S16x1, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x16, .f32⟩
  | .hbm, ⟨7, _⟩ => ⟨S1, .f32⟩
  | .hbm, ⟨8, _⟩ => ⟨S16, .f32⟩
  | .hbm, ⟨9, _⟩ => ⟨S16, .f32⟩
  | .hbm, ⟨10, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .smem, ⟨0, _⟩ => ⟨S16, .f32⟩
  | .local _ .smem, ⟨1, _⟩ => ⟨S16, .f32⟩
  | .local _ .smem, ⟨2, _⟩ => ⟨S16x16, .f32⟩
  | .local _ .smem, ⟨3, _⟩ => ⟨S16, .f32⟩
  | .local _ .smem, ⟨4, _⟩ => ⟨S16, .f32⟩
  | .local _ .smem, ⟨5, _⟩ => ⟨S1, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_v0 : Ref sig .tc := ⟨.hbm, 10, rfl⟩
abbrev cc0_stg6_0 : Ref sig .tc := ⟨.vmem, 0, rfl⟩
abbrev cc0_stg6_1 : Ref sig .tc := ⟨.vmem, 1, rfl⟩
abbrev cc0_stg7_0 : Ref sig .tc := ⟨.vmem, 2, rfl⟩
abbrev cc0_stg7_1 : Ref sig .tc := ⟨.vmem, 3, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg5_0 : Ref sig .tc := ⟨.smem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4096 : Shape := ⟨1, ![4096]⟩
abbrev S4096x1024 : Shape := ⟨2, ![4096, 1024]⟩
abbrev S16x1 : Shape := ⟨2, ![16, 1]⟩
abbrev S16 : Shape := ⟨1, ![16]⟩
abbrev S16x16 : Shape := ⟨2, ![16, 16]⟩
abbrev S1x16 : Shape := ⟨2, ![1, 16]⟩
abbrev S1 : Shape := ⟨1, ![1]⟩
abbrev S4194304x1 : Shape := ⟨2, ![4194304, 1]⟩
abbrev S4194304x16 : Shape := ⟨2, ![4194304, 16]⟩
abbrev S1x1 : Shape := ⟨2, ![1, 1]⟩
abbrev S_ : Shape := ⟨0, ![]⟩
abbrev S4096x1 : Shape := ⟨2, ![4096, 1]⟩

abbrev nBuf : Space → Nat
  | .hbm => 77
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x1024, .f32⟩
  | .hbm, ⟨2, _⟩ => ⟨S16x1, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x16, .f32⟩
  | .hbm, ⟨7, _⟩ => ⟨S1, .f32⟩
  | .hbm, ⟨8, _⟩ => ⟨S4194304x1, .f32⟩
  | .hbm, ⟨9, _⟩ => ⟨S1x16, .f32⟩
  | .hbm, ⟨10, _⟩ => ⟨S4194304x16, .f32⟩
  | .hbm, ⟨11, _⟩ => ⟨S1x16, .f32⟩
  | .hbm, ⟨12, _⟩ => ⟨S4194304x16, .f32⟩
  | .hbm, ⟨13, _⟩ => ⟨S4194304x16, .f32⟩
  | .hbm, ⟨14, _⟩ => ⟨S4194304x16, .f32⟩
  | .hbm, ⟨15, _⟩ => ⟨S16x16, .f32⟩
  | .hbm, ⟨16, _⟩ => ⟨S4194304x16, .f32⟩
  | .hbm, ⟨17, _⟩ => ⟨S1x16, .f32⟩
  | .hbm, ⟨18, _⟩ => ⟨S4194304x16, .f32⟩
  | .hbm, ⟨19, _⟩ => ⟨S4194304x16, .f32⟩
  | .hbm, ⟨20, _⟩ => ⟨S4194304x16, .f32⟩
  | .hbm, ⟨21, _⟩ => ⟨S16x1, .f32⟩
  | .hbm, ⟨22, _⟩ => ⟨S4194304x1, .f32⟩
  | .hbm, ⟨23, _⟩ => ⟨S1x1, .f32⟩
  | .hbm, ⟨24, _⟩ => ⟨S4194304x1, .f32⟩
  | .hbm, ⟨25, _⟩ => ⟨S4194304x1, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S4096x1, .i1⟩
  | .hbm, ⟨33, _⟩ => ⟨S4096x1024, .i1⟩
  | .hbm, ⟨34, _⟩ => ⟨S4096x1024, .f32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S4096x1, .i1⟩
  | .hbm, ⟨39, _⟩ => ⟨S4096x1024, .i1⟩
  | .hbm, ⟨40, _⟩ => ⟨S4096x1024, .f32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S4096x1, .i1⟩
  | .hbm, ⟨45, _⟩ => ⟨S4096x1024, .i1⟩
  | .hbm, ⟨46, _⟩ => ⟨S4096x1024, .f32⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S4096x1, .i1⟩
  | .hbm, ⟨51, _⟩ => ⟨S4096x1024, .i1⟩
  | .hbm, ⟨52, _⟩ => ⟨S4096x1024, .f32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S4096x1, .i1⟩
  | .hbm, ⟨57, _⟩ => ⟨S4096x1024, .i1⟩
  | .hbm, ⟨58, _⟩ => ⟨S4096x1024, .f32⟩
  | .hbm, ⟨59, _⟩ => ⟨S_, .i32⟩
  | .hbm, ⟨60, _⟩ => ⟨S4096, .i32⟩
  | .hbm, ⟨61, _⟩ => ⟨S4096, .i1⟩
  | .hbm, ⟨62, _⟩ => ⟨S4096x1, .i1⟩
  | .hbm, ⟨63, _⟩ => ⟨S4096x1024, .i1⟩
  | .hbm, ⟨64, _⟩ => ⟨S4096x1024, .f32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S4096x1, .i1⟩
  | .hbm, ⟨69, _⟩ => ⟨S4096x1024, .i1⟩
  | .hbm, ⟨70, _⟩ => ⟨S4096x1024, .f32⟩
  | .hbm, ⟨71, _⟩ => ⟨S_, .i32⟩
  | .hbm, ⟨72, _⟩ => ⟨S4096, .i32⟩
  | .hbm, ⟨73, _⟩ => ⟨S4096, .i1⟩
  | .hbm, ⟨74, _⟩ => ⟨S4096x1, .i1⟩
  | .hbm, ⟨75, _⟩ => ⟨S4096x1024, .i1⟩
  | .hbm, ⟨76, _⟩ => ⟨S4096x1024, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_v23 : Ref sig .tc := ⟨.hbm, 34, rfl⟩
abbrev main_c_0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call1_v0 : Ref sig .tc := ⟨.hbm, 39, rfl⟩
abbrev main_v27 : Ref sig .tc := ⟨.hbm, 40, rfl⟩
abbrev main_c_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call2_v0 : Ref sig .tc := ⟨.hbm, 45, rfl⟩
abbrev main_v31 : Ref sig .tc := ⟨.hbm, 46, rfl⟩
abbrev main_c_2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call3_v0 : Ref sig .tc := ⟨.hbm, 51, rfl⟩
abbrev main_v35 : Ref sig .tc := ⟨.hbm, 52, rfl⟩
abbrev main_c_3 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call4_v0 : Ref sig .tc := ⟨.hbm, 57, rfl⟩
abbrev main_v39 : Ref sig .tc := ⟨.hbm, 58, rfl⟩
abbrev main_c_4 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call5_v0 : Ref sig .tc := ⟨.hbm, 63, rfl⟩
abbrev main_v43 : Ref sig .tc := ⟨.hbm, 64, rfl⟩
abbrev main_c_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call6_v0 : Ref sig .tc := ⟨.hbm, 69, rfl⟩
abbrev main_v47 : Ref sig .tc := ⟨.hbm, 70, rfl⟩
abbrev main_c_6 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call7_v0 : Ref sig .tc := ⟨.hbm, 75, rfl⟩
abbrev main_v51 : Ref sig .tc := ⟨.hbm, 76, rfl⟩

abbrev nD : Nat := 1
abbrev τ : Topo := Topo.v7x

variable {F : FTy → Type} [FloatOps F]
-- ==== Proof.Mlp.lean ====
/-
The network at one element, over the extended reals: two hidden layers of sixteen units with a
hyperbolic tangent each, and one output. Both programs apply it to every element of `x`.
-/
module

public import Idealize.ShloMosaic.Lib.ValueIdx
public import Idealize.ShloMosaic.Lib.Tactic

@[expose] public section
noncomputable section
open scoped BigOperators
open Idealize.ShloMosaic

namespace Cert.Mlp

/-- Unit `j` of the first hidden layer at the input `v`. -/
def hidden1 (a b1 : Fin 16 → EReal) (v : EReal) (j : Fin 16) : EReal :=
  Ideal.tanh (a j * v + b1 j)

/-- Unit `i` of the second hidden layer, of the sixteen values `h` of the first. -/
def hidden2 (w2 : Fin 16 → Fin 16 → EReal) (b2 h : Fin 16 → EReal) (i : Fin 16) : EReal :=
  Ideal.tanh ((∑ j, w2 i j * h j) + b2 i)

/-- The network: the output unit's weighted sum of the second hidden layer, plus its bias. -/
def net (a b1 : Fin 16 → EReal) (w2 : Fin 16 → Fin 16 → EReal) (b2 w3 : Fin 16 → EReal)
    (b3 v : EReal) : EReal :=
  (∑ i, w3 i * hidden2 w2 b2 (hidden1 a b1 v) i) + b3

/-- The network at equal weights, biases and inputs. -/
theorem net_congr {a a' b1 b1' : Fin 16 → EReal} {w2 w2' : Fin 16 → Fin 16 → EReal}
    {b2 b2' w3 w3' : Fin 16 → EReal} {b3 b3' v v' : EReal} (h1 : a = a') (h2 : b1 = b1') (h3 : w2 = w2')
    (h4 : b2 = b2') (h5 : w3 = w3') (h6 : b3 = b3') (h7 : v = v') :
    net a b1 w2 b2 w3 b3 v = net a' b1' w2' b2' w3' b3' v' := by
  subst h1 h2 h3 h4 h5 h6 h7
  rfl

/-- A sum over sixteen units, written out from the left. -/
theorem sum_sixteen (f : Fin 16 → EReal) :
    ∑ i, f i = f 0 + f 1 + f 2 + f 3 + f 4 + f 5 + f 6 + f 7 + f 8 + f 9 + f 10 + f 11 + f 12
      + f 13 + f 14 + f 15 := by
  simp only [Fin.sum_univ_castSucc, Fin.sum_univ_zero, zero_add]
  rfl

end Cert.Mlp
end
-- ==== Proof.Block.lean ====
/-
What one grid point writes: the network of `Mlp` at every element of its block of `x`.
-/
module

public import proofs.«01_k».proof.Proof.Gen.KernelIdeal.Value
public import proofs.«01_k».proof.Proof.Mlp
public import Idealize.ShloMosaic.Lib.Pipeline.Value
public import Idealize.ShloMosaic.Lib.UnfoldOut
public import Idealize.ShloMosaic.Lib.Pipeline.ValueKit.Acc
public import Idealize.ShloMosaic.Lib.Pointwise.ElementwiseCore
public import Idealize.ShloMosaic.Lib.Tactic

@[expose] public section
noncomputable section
open Idealize.ShloMosaic Idealize.ShloMosaic.TcCoe Idealize.SL.Sem Idealize.ShloMosaic.ValueIdx
namespace Cert.KernelIdeal.Block
open Cert.KernelIdeal Cert.KernelIdeal.Gen

/-- A one-word load from a row of sixteen reads the word at its offset. -/
theorem word16 (x : Vec Ideal S16 .f32) (k : Nat) (hk : k < 16)
    (h : ∀ a, (![k] : Fin 1 → Nat) a + (![1] : Fin 1 → Nat) a ≤ S16.size a) (p) :
    View.ld x (Rect.unit ![k] ![1] h) (Shape.Idx.first p) = x (ix1 ⟨k, hk⟩) := by
  refine congrArg x (funext fun a => Fin.ext ?_)
  match a with
  | ⟨0, _⟩ => simp [Rect.unit, Shape.Idx.first]

/-- The one-word load from a single word reads it. -/
theorem word1 (x : Vec Ideal S1 .f32)
    (h : ∀ a, (![0] : Fin 1 → Nat) a + (![1] : Fin 1 → Nat) a ≤ S1.size a) (p) :
    View.ld x (Rect.unit ![0] ![1] h) (Shape.Idx.first p) = x (ix1 0) := by
  refine congrArg x (funext fun a => Fin.ext ?_)
  match a with
  | ⟨0, _⟩ => simp [Rect.unit, Shape.Idx.first]

/-- A one-word load from the square of weights reads the word at its two offsets. -/
theorem word16x16 (x : Vec Ideal S16x16 .f32) (k l : Nat) (hk : k < 16) (hl : l < 16)
    (h : ∀ a, (![k, l] : Fin 2 → Nat) a + (![1, 1] : Fin 2 → Nat) a ≤ S16x16.size a) (p) :
    View.ld x (Rect.unit ![k, l] ![1, 1] h) (Shape.Idx.first p) = x (ix2 ⟨k, hk⟩ ⟨l, hl⟩) := by
  refine congrArg x (funext fun a => Fin.ext ?_)
  match a with
  | ⟨0, _⟩ => simp [Rect.unit, Shape.Idx.first]
  | ⟨1, _⟩ => simp [Rect.unit, Shape.Idx.first]

set_option maxHeartbeats 8000000 in
set_option maxRecDepth 100000 in
/-- One grid point's block: at every element the network at that element of the block of `x`, with the
    weights and biases of the six small operands. -/
theorem out_apply (c : Dev nD) (i : grid0.Coords)
    (arg1 : Memref sig .tc .smem S16 .f32) (harg1 : arg1.IsWhole)
    (arg2 : Memref sig .tc .smem S16 .f32) (harg2 : arg2.IsWhole)
    (arg3 : Memref sig .tc .smem S16x16 .f32) (harg3 : arg3.IsWhole)
    (arg4 : Memref sig .tc .smem S16 .f32) (harg4 : arg4.IsWhole)
    (arg5 : Memref sig .tc .smem S16 .f32) (harg5 : arg5.IsWhole)
    (arg6 : Memref sig .tc .smem S1 .f32) (harg6 : arg6.IsWhole)
    (arg7 : Memref sig .tc .vmem S256x1024 .f32) (harg7 : arg7.IsWhole)
    (arg8 : Memref sig .tc .vmem S256x1024 .f32) (harg8 : arg8.IsWhole)
    (x0 x1 : Vec Ideal S16 .f32) (x2 : Vec Ideal S16x16 .f32) (x3 x4 : Vec Ideal S16 .f32)
    (x5 : Vec Ideal S1 .f32) (x6 : Vec Ideal S256x1024 .f32) (y : S256x1024.Idx) :
    out0_A_7 c i arg1 harg1 arg2 harg2 arg3 harg3 arg4 harg4 arg5 harg5 arg6 harg6 arg7 harg7 arg8 harg8
      x0 x1 x2 x3 x4 x5 x6 y
    = Mlp.net (fun j => x0 (ix1 j)) (fun j => x1 (ix1 j)) (fun i j => x2 (ix2 i j))
        (fun i => x3 (ix1 i)) (fun i => x4 (ix1 i)) (x5 (ix1 0)) (x6 y) := by
  frame_out
  -- every word read is an entry of an operand
  simp (disch := decide) only [word16 x0, word16 x1, word16 x3, word16 x4, word1 x5, word16x16 x2]
  -- the operations read at one element, and the two nested sums written out in the order the body adds
  simp only [Mlp.net, Mlp.hidden2, Mlp.hidden1, Mlp.sum_sixteen,
    ValueIdx.mulf_apply, ValueIdx.addf_apply, Idealize.ShloMosaic.tanh_apply, Ideal.tanh_def, broadcast_apply,
    k0_pay1, k0_pay2, k0_pay3, k0_pay4, k0_pay5, k0_pay6, k0_pay7, k0_pay8, k0_pay9, k0_pay10,
    k0_pay11, k0_pay12, k0_pay13, k0_pay14, k0_pay15, k0_pay16, k0_pay17, k0_pay18, k0_pay19,
    k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46,
    k0_pay47, k0_pay48, k0_pay49, k0_pay50, k0_pay51, k0_pay52, k0_pay53, k0_pay54, k0_pay55,
    k0_pay56, k0_pay57, k0_pay58, k0_pay59, k0_pay60, k0_pay61, k0_pay62, k0_pay63, k0_pay64,
    k0_pay65, k0_pay66, k0_pay67, k0_pay68, k0_pay69]
  rfl

end Cert.KernelIdeal.Block
end
-- ==== Proof.Array.lean ====
/-
What the kernel's result array holds: the network of `Mlp` at every element of `x`, with the weights and
biases read from the arguments. The sixteen grid points write disjoint blocks of 256 rows that cover the array.
-/
module

public import proofs.«01_k».proof.Proof.Block
public import Idealize.ShloMosaic.Lib.ValueLayout
public import Idealize.ShloMosaic.Lib.Pipeline.ValueKit.Geometry

@[expose] public section
noncomputable section
open Idealize.ShloMosaic Idealize.ShloMosaic.TcCoe Idealize.SL.Sem Idealize.ShloMosaic.ValueIdx
namespace Cert.KernelIdeal.Array
open Cert.KernelIdeal Cert.KernelIdeal.Gen

variable (m : (ℓ : Loc nD τ sig) → Buf (Elt Ideal) ℓ)

/-- The weights, the biases and the input of device `c`, under the names the mathematics uses. -/
abbrev aX (c : Dev nD) : Vec Ideal S4096x1024 .f32 := m ((c.tc : Thread nD τ).loc main_arg1)
abbrev aW1 (c : Dev nD) : Vec Ideal S16x1 .f32 := m ((c.tc : Thread nD τ).loc main_arg2)
abbrev aB1 (c : Dev nD) : Vec Ideal S16 .f32 := m ((c.tc : Thread nD τ).loc main_arg3)
abbrev aW2 (c : Dev nD) : Vec Ideal S16x16 .f32 := m ((c.tc : Thread nD τ).loc main_arg4)
abbrev aB2 (c : Dev nD) : Vec Ideal S16 .f32 := m ((c.tc : Thread nD τ).loc main_arg5)
abbrev aW3 (c : Dev nD) : Vec Ideal S1x16 .f32 := m ((c.tc : Thread nD τ).loc main_arg6)
abbrev aB3 (c : Dev nD) : Vec Ideal S1 .f32 := m ((c.tc : Thread nD τ).loc main_arg7)

/-- The first operand is the first layer's weights, flattened. -/
theorem V_w1 (c : Dev nD) : V m c main_call0_v0 = shapeCast S16 (aW1 m c) shapeCasts_S16x1_S16 := by
  unfold V
  after_results_simp
  rfl

/-- The fifth operand is the output layer's weights, flattened. -/
theorem V_w3 (c : Dev nD) : V m c main_call0_v1 = shapeCast S16 (aW3 m c) shapeCasts_S1x16_S16 := by
  unfold V
  after_results_simp
  rfl

/-- A column of sixteen, flattened, at its position. -/
theorem column_flat (x : Vec Ideal S16x1 .f32) (j : Fin 16) :
    shapeCast S16 x shapeCasts_S16x1_S16 (ix1 j) = x (ix2 j 0) :=
  shapeCast_apply x shapeCasts_S16x1_S16 _ _ (by
    rw [Shape.rowMajor_val_two, Shape.rowMajor_val_one]
    show j.val * 1 + 0 = j.val
    omega)

/-! ## Where each operand's block lies: the six small operands are read whole at every point -/

theorem index0 : ∀ t : Fin cfg0.N, win0_0.index t = ![0] := (by decide +kernel : ∀ t : Fin grid0.N, _)
theorem index1 : ∀ t : Fin cfg0.N, win0_1.index t = ![0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0] := (by decide +kernel : ∀ t : Fin grid0.N, _)
theorem index4 : ∀ t : Fin cfg0.N, win0_4.index t = ![0] := (by decide +kernel : ∀ t : Fin grid0.N, _)
theorem index5 : ∀ t : Fin cfg0.N, win0_5.index t = ![0] := (by decide +kernel : ∀ t : Fin grid0.N, _)
/-- The block of `x` that a grid point reads and the block of the result it writes have the same place. -/
theorem index67 : ∀ t : Fin cfg0.N, win0_6.index t = win0_7.index t :=
  (by decide +kernel : ∀ t : Fin grid0.N, win0_6.index t = win0_7.index t)

/-- The whole result of device `c`: the network at every element of `x`. -/
def result (c : Dev nD) : Vec Ideal S4096x1024 .f32 := fun i =>
  Mlp.net (fun j => aW1 m c (ix2 j 0)) (fun j => aB1 m c (ix1 j)) (fun i j => aW2 m c (ix2 i j))
    (fun i => aB2 m c (ix1 i)) (fun i => aW3 m c (ix2 0 i)) (aB3 m c (ix1 0)) (aX m c i)

/-! ## Each operand's block at a grid point, as entries of the arguments -/

theorem blk0 (c : Dev nD) (t : Fin cfg0.N) (j : Fin 16) : iblk m c 0 t (ix1 j) = aW1 m c (ix2 j 0) := by
  refine Eq.trans ?_ (column_flat (aW1 m c) j)
  refine Eq.trans ?_ (congrFun (V_w1 m c) (ix1 j))
  blk_simp [iblk]
  refine congrArg (V m c main_call0_v0) ?_
  blk_ext [index0]

theorem blk1 (c : Dev nD) (t : Fin cfg0.N) (j : Fin 16) : iblk m c 1 t (ix1 j) = aB1 m c (ix1 j) := by
  refine Eq.trans ?_ (congrFun (V_main_arg3 m c) (ix1 j))
  blk_simp [iblk]
  refine congrArg (V m c main_arg3) ?_
  blk_ext [index1]

theorem blk2 (c : Dev nD) (t : Fin cfg0.N) (i j : Fin 16) : iblk m c 2 t (ix2 i j) = aW2 m c (ix2 i j) := by
  refine Eq.trans ?_ (congrFun (V_main_arg4 m c) (ix2 i j))
  blk_simp [iblk]
  refine congrArg (V m c main_arg4) ?_
  blk_ext [index2]

theorem blk3 (c : Dev nD) (t : Fin cfg0.N) (i : Fin 16) : iblk m c 3 t (ix1 i) = aB2 m c (ix1 i) := by
  refine Eq.trans ?_ (congrFun (V_main_arg5 m c) (ix1 i))
  blk_simp [iblk]
  refine congrArg (V m c main_arg5) ?_
  blk_ext [index3]

theorem blk4 (c : Dev nD) (t : Fin cfg0.N) (i : Fin 16) : iblk m c 4 t (ix1 i) = aW3 m c (ix2 0 i) := by
  refine Eq.trans ?_ (shapeCast_1a_a_apply (aW3 m c) shapeCasts_S1x16_S16 i)
  refine Eq.trans ?_ (congrFun (V_w3 m c) (ix1 i))
  blk_simp [iblk]
  refine congrArg (V m c main_call0_v1) ?_
  blk_ext [index4]

theorem blk5 (c : Dev nD) (t : Fin cfg0.N) : iblk m c 5 t (ix1 0) = aB3 m c (ix1 0) := by
  refine Eq.trans ?_ (congrFun (V_main_arg7 m c) (ix1 0))
  blk_simp [iblk]
  refine congrArg (V m c main_arg7) ?_
  blk_ext [index5]

/-- The block of `x` at a grid point, read where the result's block of that point lies. -/
theorem blk6 (c : Dev nD) (t : Fin cfg0.N) (y : S256x1024.Idx) :
    iblk m c 6 t y = aX m c ((win0_7.blk t).view.emb y) := by
  refine Eq.trans ?_ (congrFun (V_main_arg1 m c) _)
  blk_simp [iblk]
  refine congrArg (V m c main_arg1) ?_
  blk_ext [index67]

/-- After the last grid point the result array is `result`: the blocks cover it, and each holds the network. -/
theorem final (c : Dev nD) : (dats m 0 c).arrAt 7 cfg0.N = result m c := by
  refine (dats m 0 c).arrAt_eq_of_covers 7 _ (by decide +kernel) fun t hf y => ?_
  blk_simp
  rw [after0_7]
  unfold outsAt0
  rw [Block.out_apply]
  unfold result
  refine Mlp.net_congr ?_ ?_ ?_ ?_ ?_ ?_ ?_
  · exact funext fun j => blk0 m c t j
  · exact funext fun j => blk1 m c t j
  · exact funext fun i => funext fun j => blk2 m c t i j
  · exact funext fun i => blk3 m c t i
  · exact funext fun i => blk4 m c t i
  · exact blk5 m c t
  · exact blk6 m c t y

end Cert.KernelIdeal.Array
end
-- ==== Proof.Precondition.lean ====
/-
The precondition, decoded: it says of each row's tilt type that, as a number, it is below eight.
-/
module

public import proofs.«01_k».proof.Pre_tilt_types_name_experts
public import Idealize.ShloMosaic.Lib.ValueIdx
public import Idealize.ShloMosaic.Lib.Tactic

@[expose] public section
noncomputable section
open Idealize.ShloMosaic
namespace Cert.Pre_tilt_types_name_experts.Meaning

/-- The one shape fact the predicate states: a scalar broadcasts to a row of 4096. -/
instance facts : Cert.Pre_tilt_types_name_experts.Facts where
  bcast_S_S4096 := by decide

/-- A word that is at least zero and less than eight, compared with its sign, is below eight as a number. -/
theorem word_lt (w : BitVec 32)
    (h : IntOp.andi (IntOp.cmpi .sge w 0#32) (IntOp.cmpi .slt w 8#32) = 1#1) : w.toNat < 8 := by
  by_cases lo : (0#32).sle w = true
  · by_cases hi : w.slt 8#32 = true
    · rw [BitVec.sle_iff_toInt_le, BitVec.toInt_eq_toNat_cond, BitVec.toInt_eq_toNat_cond] at lo
      rw [BitVec.slt_iff_toInt_lt, BitVec.toInt_eq_toNat_cond, BitVec.toInt_eq_toNat_cond] at hi
      simp only [BitVec.toNat_ofNat] at lo hi
      have := w.isLt
      omega
    · simp [IntOp.andi, IntOp.cmpi, lo, hi] at h
  · simp [IntOp.andi, IntOp.cmpi, lo] at h

/-- Under the predicate every row's tilt type is below eight. -/
theorem tilt_lt (tilt : IVec S4096 32) (x : FVec Ideal S4096x1024 .f32) (w1 : FVec Ideal S16x1 .f32)
    (b1 : FVec Ideal S16 .f32) (w2 : FVec Ideal S16x16 .f32) (b2 : FVec Ideal S16 .f32)
    (w3 : FVec Ideal S1x16 .f32) (b3 : FVec Ideal S1 .f32)
    (h : Cert.Pre_tilt_types_name_experts.fn (F := Ideal) tilt x w1 b1 w2 b2 w3 b3 = fun _ => 1#1)
    (i : S4096.Idx) : (tilt i).toNat < 8 :=
  word_lt (tilt i) (congrFun h i)

end Cert.Pre_tilt_types_name_experts.Meaning
end
-- ==== Proof.Reference.lean ====
/-
What the reference computes: its three matrix products, read at one row, are the network of `Mlp` at that row's
element of `x`; and its eight selects keep that value wherever the tilt type is one of 0, …, 7.
-/
module

public import proofs.«01_k».proof.Proof.Gen.ReferenceIdeal.Run
public import proofs.«01_k».proof.Proof.Mlp
public import Idealize.ShloMosaic.Lib.StackMember
public import Idealize.ShloMosaic.Lib.KernelVsHost
public import Idealize.ShloMosaic.Lib.IdealHost
public import Idealize.ShloMosaic.Lib.ValueLayout
public import Idealize.ShloMosaic.Lib.Pointwise.ElementwiseCore

@[expose] public section
noncomputable section
open scoped BigOperators
open Idealize.ShloMosaic Idealize.ShloMosaic.TcCoe Idealize.SL.Sem Idealize.ShloMosaic.ValueIdx
open Idealize.ShloMosaic.StackMember
namespace Cert.ReferenceIdeal.Ref
open Cert.ReferenceIdeal Cert.ReferenceIdeal.Gen

/-! ## The three layers, row by row -/

/-- A vector laid out as one row and repeated down the rows of a matrix reads its entry at the column. -/
theorem bias_row {n M : Nat} (h1 : (⟨1, ![n]⟩ : Shape).BroadcastsInDim ⟨2, ![1, n]⟩ ![1])
    (h2 : (⟨2, ![1, n]⟩ : Shape).BroadcastsInDim ⟨2, ![M, n]⟩ ![0, 1]) (b : FVec Ideal ⟨1, ![n]⟩ .f32)
    (r : Fin M) (j : Fin n) :
    broadcastInDim ⟨2, ![M, n]⟩ ![0, 1] h2 (broadcastInDim ⟨2, ![1, n]⟩ ![1] h1 b) (ix2 r j) = b (ix1 j) := by
  rw [broadcastInDim_oneRow_apply]
  refine broadcastInDim_apply ![1] h1 b _ (ix1 j) fun a => ?_
  match a with
  | ⟨0, _⟩ =>
    show j.val = if n = 1 then 0 else j.val
    split_ifs with hn
    · have := j.isLt; omega
    · rfl

/-- The first hidden layer of the column `X` of inputs. -/
def layer1 (X : FVec Ideal S4194304x1 .f32) (W : FVec Ideal S16x1 .f32) (b : FVec Ideal S16 .f32) :
    FVec Ideal S4194304x16 .f32 :=
  Host.tanh (addf (Host.dotGeneral dot_S4194304x1_S1x16_S4194304x16_1_0_0_1_n_n none X
      (transpose S1x16 [1, 0] W transposes_S16x1_S1x16_1_0))
    (broadcastInDim S4194304x16 ![0, 1] bcast_S1x16_S4194304x16_0_1 (broadcastInDim S1x16 ![1] bcast_S16_S1x16_1 b)))

/-- The second hidden layer of the rows `H` of first-layer values. -/
def layer2 (H : FVec Ideal S4194304x16 .f32) (W : FVec Ideal S16x16 .f32) (b : FVec Ideal S16 .f32) :
    FVec Ideal S4194304x16 .f32 :=
  Host.tanh (addf (Host.dotGeneral dot_S4194304x16_S16x16_S4194304x16_1_0_0_1_n_n none H
      (transpose S16x16 [1, 0] W transposes_S16x16_S16x16_1_0))
    (broadcastInDim S4194304x16 ![0, 1] bcast_S1x16_S4194304x16_0_1 (broadcastInDim S1x16 ![1] bcast_S16_S1x16_1 b)))

/-- The output layer of the rows `H` of second-layer values. -/
def layer3 (H : FVec Ideal S4194304x16 .f32) (W : FVec Ideal S1x16 .f32) (b : FVec Ideal S1 .f32) :
    FVec Ideal S4194304x1 .f32 :=
  addf (Host.dotGeneral dot_S4194304x16_S16x1_S4194304x1_1_0_0_1_n_n none H
      (transpose S16x1 [1, 0] W transposes_S1x16_S16x1_1_0))
    (broadcastInDim S4194304x1 ![0, 1] bcast_S1x1_S4194304x1_0_1 (broadcastInDim S1x1 ![1] bcast_S1_S1x1_1 b))

/-- A row of the first layer: the contraction over one column is one product. -/
theorem layer1_apply (X : FVec Ideal S4194304x1 .f32) (W : FVec Ideal S16x1 .f32) (b : FVec Ideal S16 .f32)
    (r : Fin 4194304) (j : Fin 16) :
    layer1 X W b (ix2 r j)
      = Mlp.hidden1 (fun j => W (ix2 j 0)) (fun j => b (ix1 j)) (X (ix2 r 0)) j := by
  have e : Host.dotGeneral dot_S4194304x1_S1x16_S4194304x16_1_0_0_1_n_n none X
      (transpose S1x16 [1, 0] W transposes_S16x1_S1x16_1_0) (ix2 r j) = W (ix2 j 0) * X (ix2 r 0) := by
    refine (dotGeneral_plain_apply none X (transpose S1x16 [1, 0] W transposes_S16x1_S1x16_1_0) r j).trans ?_
    rw [Fin.sum_univ_one, transpose_ix2_apply, mul_comm]
  unfold layer1 Mlp.hidden1
  rw [Host.tanh_apply, Ideal.hostUnary_tanh_def, ValueIdx.addf_apply, e]
  exact congrArg (fun z => Ideal.tanh (_ + z)) (bias_row bcast_S16_S1x16_1 bcast_S1x16_S4194304x16_0_1 b r j)

/-- A row of the second layer. -/
theorem layer2_apply (H : FVec Ideal S4194304x16 .f32) (W : FVec Ideal S16x16 .f32) (b : FVec Ideal S16 .f32)
    (r : Fin 4194304) (i : Fin 16) :
    layer2 H W b (ix2 r i)
      = Mlp.hidden2 (fun i j => W (ix2 i j)) (fun i => b (ix1 i)) (fun j => H (ix2 r j)) i := by
  have e : Host.dotGeneral dot_S4194304x16_S16x16_S4194304x16_1_0_0_1_n_n none H
      (transpose S16x16 [1, 0] W transposes_S16x16_S16x16_1_0) (ix2 r i)
        = ∑ j : Fin 16, W (ix2 i j) * H (ix2 r j) := by
    refine (dotGeneral_plain_apply none H (transpose S16x16 [1, 0] W transposes_S16x16_S16x16_1_0) r i).trans ?_
    exact Finset.sum_congr rfl fun j _ => by rw [transpose_ix2_apply, mul_comm]
  unfold layer2 Mlp.hidden2
  rw [Host.tanh_apply, Ideal.hostUnary_tanh_def, ValueIdx.addf_apply, e]
  exact congrArg (fun z => Ideal.tanh (_ + z)) (bias_row bcast_S16_S1x16_1 bcast_S1x16_S4194304x16_0_1 b r i)

/-- A row of the output layer. -/
theorem layer3_apply (H : FVec Ideal S4194304x16 .f32) (W : FVec Ideal S1x16 .f32) (b : FVec Ideal S1 .f32)
    (r : Fin 4194304) :
    layer3 H W b (ix2 r 0) = (∑ i : Fin 16, W (ix2 0 i) * H (ix2 r i)) + b (ix1 0) := by
  have e : Host.dotGeneral dot_S4194304x16_S16x1_S4194304x1_1_0_0_1_n_n none H
      (transpose S16x1 [1, 0] W transposes_S1x16_S16x1_1_0) (ix2 r 0)
        = ∑ i : Fin 16, W (ix2 0 i) * H (ix2 r i) := by
    refine (dotGeneral_plain_apply none H (transpose S16x1 [1, 0] W transposes_S1x16_S16x1_1_0) r 0).trans ?_
    exact Finset.sum_congr rfl fun i _ => by rw [transpose_ix2_apply, mul_comm]
  unfold layer3
  rw [ValueIdx.addf_apply, e]
  exact congrArg (fun z => _ + z) (bias_row bcast_S1_S1x1_1 bcast_S1x1_S4194304x1_0_1 b r 0)

/-! ## The network over the whole array -/

/-- The network applied to `x` laid out as one column, back in the shape of `x`. -/
def mlpArray (x : FVec Ideal S4096x1024 .f32) (W1 : FVec Ideal S16x1 .f32) (b1 : FVec Ideal S16 .f32)
    (W2 : FVec Ideal S16x16 .f32) (b2 : FVec Ideal S16 .f32) (W3 : FVec Ideal S1x16 .f32)
    (b3 : FVec Ideal S1 .f32) : FVec Ideal S4096x1024 .f32 :=
  shapeCast S4096x1024
    (layer3 (layer2 (layer1 (shapeCast S4194304x1 x shapeCasts_S4096x1024_S4194304x1) W1 b1) W2 b2) W3 b3)
    shapeCasts_S4194304x1_S4096x1024

/-- At every element of `x` the array holds the network at that element. -/
theorem mlpArray_apply (x : FVec Ideal S4096x1024 .f32) (W1 : FVec Ideal S16x1 .f32) (b1 : FVec Ideal S16 .f32)
    (W2 : FVec Ideal S16x16 .f32) (b2 : FVec Ideal S16 .f32) (W3 : FVec Ideal S1x16 .f32)
    (b3 : FVec Ideal S1 .f32) (p : Fin 4096) (q : Fin 1024) :
    mlpArray x W1 b1 W2 b2 W3 b3 (ix2 p q)
      = Mlp.net (fun j => W1 (ix2 j 0)) (fun j => b1 (ix1 j)) (fun i j => W2 (ix2 i j)) (fun i => b2 (ix1 i))
          (fun i => W3 (ix2 0 i)) (b3 (ix1 0)) (x (ix2 p q)) := by
  have hr : p.val * 1024 + q.val < 4194304 := by have := p.isLt; have := q.isLt; omega
  have e1 : mlpArray x W1 b1 W2 b2 W3 b3 (ix2 p q) = layer3 (layer2 (layer1 (shapeCast S4194304x1 x
      shapeCasts_S4096x1024_S4194304x1) W1 b1) W2 b2) W3 b3 (ix2 ⟨p.val * 1024 + q.val, hr⟩ 0) :=
    shapeCast_apply _ shapeCasts_S4194304x1_S4096x1024 _ _ (by
      rw [Shape.rowMajor_val_two, Shape.rowMajor_val_two]
      show (p.val * 1024 + q.val) * 1 + 0 = p.val * 1024 + q.val
      omega)
  have e2 : shapeCast S4194304x1 x shapeCasts_S4096x1024_S4194304x1 (ix2 ⟨p.val * 1024 + q.val, hr⟩ 0)
      = x (ix2 p q) :=
    shapeCast_apply _ shapeCasts_S4096x1024_S4194304x1 _ _ (by
      rw [Shape.rowMajor_val_two, Shape.rowMajor_val_two]
      show p.val * 1024 + q.val = (p.val * 1024 + q.val) * 1 + 0
      omega)
  rw [e1, layer3_apply]
  simp only [layer2_apply, layer1_apply, e2]
  rfl

/-! ## The selects over the tilt types -/

/-- One select: where the row's tilt type is the word `k`, the value `y`, elsewhere what was there. -/
def pick (k : BitVec 32) (tilt : IVec S4096 32) (y old : FVec Ideal S4096x1024 .f32) : FVec Ideal S4096x1024 .f32 :=
  select (broadcastInDim S4096x1024 ![0, 1] bcast_S4096x1_S4096x1024_0_1
    (broadcastInDim S4096x1 ![0] bcast_S4096_S4096x1_0
      (cmpi .eq tilt (broadcastInDim S4096 ![] bcast_S_S4096 (constantI S_ 32 k))))) y old

/-- A select read at an element: the row's tilt type decides. -/
theorem pick_apply (k : BitVec 32) (tilt : IVec S4096 32) (y old : FVec Ideal S4096x1024 .f32)
    (p : Fin 4096) (q : Fin 1024) :
    pick k tilt y old (ix2 p q) = if tilt (ix1 p) = k then y (ix2 p q) else old (ix2 p q) := by
  have e1 : broadcastInDim S4096x1024 ![0, 1] bcast_S4096x1_S4096x1024_0_1
      (broadcastInDim S4096x1 ![0] bcast_S4096_S4096x1_0
        (cmpi .eq tilt (broadcastInDim S4096 ![] bcast_S_S4096 (constantI S_ 32 k)))) (ix2 p q)
      = BitVec.ofBool (tilt (ix1 p) == k) := by
    refine (broadcastInDim_apply ![0, 1] bcast_S4096x1_S4096x1024_0_1 _ (ix2 p q) (ix2 p 0) fun a => ?_).trans ?_
    · match a with
      | ⟨0, _⟩ => rfl
      | ⟨1, _⟩ => rfl
    refine (broadcastInDim_apply ![0] bcast_S4096_S4096x1_0 _ (ix2 p 0) (ix1 p) fun a => ?_).trans ?_
    · match a with
      | ⟨0, _⟩ => rfl
    · rfl
  unfold pick
  rw [select_apply, e1]
  by_cases h : tilt (ix1 p) = k
  · rw [if_pos h, h, beq_self_eq_true]; rfl
  · rw [if_neg h, beq_false_of_ne h]; rfl

/-- The reference's result is the eight selects, in order, of the one network. -/
theorem res_eq (m : (ℓ : Loc nD τ sig) → Buf (Elt Ideal) ℓ) (c : Dev nD)
    (tilt : IVec S4096 32) (ht : tilt = m ((c.tc : Thread nD τ).loc main_arg0))
    (y : FVec Ideal S4096x1024 .f32)
    (hy : y = mlpArray (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7))) :
    Value.res_out0 m c = pick 7#32 tilt y (pick 6#32 tilt y (pick 5#32 tilt y (pick 4#32 tilt y
      (pick 3#32 tilt y (pick 2#32 tilt y (pick 1#32 tilt y (pick 0#32 tilt y
        (broadcastInDim S4096x1024 ![] bcast_S_S4096x1024 (constant S_ .f32 0x00000000#32))))))))) := by
  subst ht hy
  rfl

/-- Where a row's tilt type is one of the eight, the reference's result is the network at each element of the row. -/
theorem res_apply (m : (ℓ : Loc nD τ sig) → Buf (Elt Ideal) ℓ) (c : Dev nD)
    (tilt : IVec S4096 32) (ht : tilt = m ((c.tc : Thread nD τ).loc main_arg0))
    (p : Fin 4096) (q : Fin 1024) (h : (tilt (ix1 p)).toNat < 8) :
    Value.res_out0 m c (ix2 p q)
      = mlpArray (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (ix2 p q) := by
  have hk : tilt (ix1 p) = 0#32 ∨ tilt (ix1 p) = 1#32 ∨ tilt (ix1 p) = 2#32 ∨ tilt (ix1 p) = 3#32
      ∨ tilt (ix1 p) = 4#32 ∨ tilt (ix1 p) = 5#32 ∨ tilt (ix1 p) = 6#32 ∨ tilt (ix1 p) = 7#32 := by
    simp only [← BitVec.toNat_inj, BitVec.toNat_ofNat]
    omega
  rw [res_eq m c tilt ht _ rfl]
  simp only [pick_apply]
  rcases hk with e | e | e | e | e | e | e | e <;> rw [e] <;> simp

end Cert.ReferenceIdeal.Ref
end
-- ==== Proof.lean ====
/-
The proof of `Cert.Claim`. The frames are the generated ones; the value claim says that both programs, over the
extended reals, leave the network of `Mlp` at every element of `x` wherever the precondition holds:
`Block` (one grid point), `Array` (the kernel's whole result), `Precondition` and `Reference` (the reference's result).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Precondition
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.ValueIdx

/-- The shape fact the precondition states. -/
instance preFacts : Cert.Pre_tilt_types_name_experts.Facts := Cert.Pre_tilt_types_name_experts.Meaning.facts

/-- The reference leaves its arguments as they were and its semaphores at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The equation: on equal arguments that satisfy the precondition, the reference's result is the kernel's. -/
theorem equation (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_tilt_types_name_experts m) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7)) :
    (Cert.ReferenceIdeal.Value.res_main_v51 m' c : Vec Ideal Cert.KernelIdeal.S4096x1024 .f32)
      = Cert.KernelIdeal.Array.result m c := by
  funext i
  obtain ⟨p, q, rfl⟩ : ∃ (p : Fin 4096) (q : Fin 1024), i = ix2 p q := ⟨i 0, i 1, eq_ix2 i⟩
  refine (Cert.ReferenceIdeal.Ref.res_apply m' c _ h0.symm p q
    (Cert.Pre_tilt_types_name_experts.Meaning.tilt_lt _ _ _ _ _ _ _ _ (hpre c) (ix1 p))).trans ?_
  rw [Cert.ReferenceIdeal.Ref.mlpArray_apply, h1, h2, h3, h4, h5, h6, h7]
  rfl

/-- Over the extended reals the kernel and the reference leave the same array. -/
theorem value : Cert.algebraic_KernelIdeal_ReferenceIdeal_pre_tilt_types_name_experts
    (hKernelIdeal := Cert.KernelIdeal.Gen.facts) (hReferenceIdeal := Cert.ReferenceIdeal.Gen.facts)
    (hPre_tilt_types_name_experts := preFacts) := by
  intro m ρ m' ρ' hpre heq
  refine ⟨fun c => Cert.KernelIdeal.Array.result m c, ?_, ?_⟩
  · refine (θ_run Cert.KernelIdeal.defs _ _).mono (fun r h c => ?_) (Cert.KernelIdeal.Value.run_blocks (F := Ideal) m ρ)
    exact ⟨(h c).1.trans (Cert.KernelIdeal.Array.final m c), (h c).2⟩
  · refine (θ_run Cert.ReferenceIdeal.defs _ _).mono (fun r h c => ?_) (Cert.ReferenceIdeal.Value.run (F := Ideal) m' ρ')
    obtain ⟨h0, h1, h2, h3, h4, h5, h6, h7⟩ := heq c
    exact ⟨(h c).1.trans (equation m m' hpre c h0 h1 h2 h3 h4 h5 h6 h7), (h c).2⟩

/-- Everything claimed. -/
theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    value⟩

end Cert.Proof

end
